-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 256, 512]⟩ ⟨3, ![2, 256, 512]⟩ (Layout.meshBlock [2, 2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 256]⟩ ⟨2, ![256, 512]⟩ (Layout.meshBlock [2, 2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x512 : Shape := ⟨3, ![1, 256, 512]⟩
abbrev S256x256 : Shape := ⟨2, ![256, 256]⟩
abbrev S2 : Shape := ⟨1, ![2]⟩
abbrev S_ : Shape := ⟨0, ![]⟩
abbrev S1 : Shape := ⟨1, ![1]⟩
abbrev S1x256x256 : Shape := ⟨3, ![1, 256, 256]⟩

abbrev nBuf : Space → Nat
  | .hbm => 2
  | .vmem => 4
  | .smem => 0
  | _ => 0

abbrev bufTy : (tb : Table) → Fin (tcTables nBuf tb) → BufTy
  | .hbm, ⟨0, _⟩ => ⟨S1x256x512, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | _, _ => ⟨S1x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_5 : BitVec 32 := 4#32
  let v11 : BitVec 32 := Scalar.muli v9 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_7 : BitVec 32 := 1#32
  let v15 : BitVec 32 := Scalar.muli v8 c1_i32_7
  let v16 : BitVec 32 := Scalar.addi v14 v15
  v16.toNat
def k0_off1 (d0 : Dev nD) : Fin 3 → Nat :=
  let c0_i32_10 : BitVec 32 := 0#32
  let c0_i32_12 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c256_i32 : BitVec 32 := 256#32
  let v18 : BitVec 32 := Scalar.muli v17 c256_i32
  ![0, 0, v18.toNat]
def k0_off2 (d0 : Dev nD) : Fin 3 → Nat :=
  let c0_i32_13 : BitVec 32 := 0#32
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c256_i32_9 : BitVec 32 := 256#32
  let v19 : BitVec 32 := Scalar.muli v2 c256_i32_9
  ![0, 0, v19.toNat]
def k0_dev2 (d0 : Dev nD) : Nat :=
  let c0_i32_21 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_20 : BitVec 32 := 4#32
  let v32 : BitVec 32 := Scalar.muli v9 c4_i32_20
  let v33 : BitVec 32 := Scalar.addi c0_i32_21 v32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_22 : BitVec 32 := 2#32
  let v34 : BitVec 32 := Scalar.muli v5 c2_i32_22
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v36 : BitVec 32 := Scalar.muli v8 c1_i32_23
  let v37 : BitVec 32 := Scalar.addi v35 v36
  v37.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x256x512 : Shape := ⟨3, ![2, 256, 512]⟩
abbrev S_ : Shape := ⟨0, ![]⟩
abbrev S256x512 : Shape := ⟨2, ![256, 512]⟩

abbrev nBuf : Space → Nat
  | .hbm => 3
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S_, .f32⟩
  | .hbm, ⟨2, _⟩ => ⟨S256x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Protocol.lean ====
/-
# The exchange between the two halves of the mesh: cells, schedule, levels

Device `c` and its peer (the device whose first mesh coordinate is the other one) each cut their block of `x` into
two halves of columns. Each keeps one half, sends the other one to the peer, and adds what it kept to what it was
sent. Three semaphores of a device take part in the talk between the two: the barrier semaphore (the peer says "I am
in the kernel, here is my landing buffer"), the send semaphore and the receive semaphore of the remote copy. The two
copies inside a device run on two more semaphores, which nobody else touches; they are not part of this schedule.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline's rounds, the exchange's rounds, the counters of the copies inside a device -/

abbrev UB : Type := URounds (GSem nD τ sig) Unit
abbrev UU : Type := UR sig nD τ × (UB × Counters)

local notation "𝕄" => MT nD τ sig Unit (Elt F) ℕ UU ℕ

abbrev EP : Emb (UR sig nD τ) (MT nD τ sig Unit (Elt F) ℕ UU ℕ) := embL
def EB : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
omit [FloatOps F] in
instance EB_landsIn : (EB : Emb UB (MT nD τ sig Unit (Elt F) ℕ UU ℕ)).LandsIn (upEmb : UEmb _ 𝕄) := by
  unfold EB; infer_instance
abbrev EC : UEmb Counters (MT nD τ sig Unit (Elt F) ℕ UU ℕ) := countersEmb

variable (m : (ℓ : Loc nD τ sig) → Buf (Elt F) ℓ)

/-! ## The peer -/

set_option backward.proofsInPublic true in
/-- The device the exchange is with: the other first coordinate, the same second and third ones. -/
def peer (c : Dev nD) : Dev nD := ⟨(c.val + 4) % 8, Nat.mod_lt _ (by decide)⟩

theorem peer_peer (c : Dev nD) : peer (peer c) = c := by revert c; decide
/-- Taking the peer, as a permutation of the devices. -/
def swap : Dev nD ≃ Dev nD := ⟨peer, peer, peer_peer, peer_peer⟩
/-- The device the barrier signal names is the peer. -/
theorem dev1_eq (c : Dev nD) : (⟨k0_dev1 c, k0_dev1_lt c⟩ : Dev nD) = peer c := by revert c; decide +kernel
/-- The device the remote copy names is the peer. -/
theorem dev2_eq (c : Dev nD) : (⟨k0_dev2 c, k0_dev2_lt c⟩ : Dev nD) = peer c := by revert c; decide +kernel

/-! ## Buffers and semaphores -/

/-- The device's block of `x`, in HBM. -/
abbrev xM : Memref sig .tc .hbm S1x256x512 .f32 := Memref.whole main_arg0
/-- The result's staging buffer. -/
abbrev oM : Memref sig .tc .vmem S256x256 .f32 := Memref.whole cc0_stg0_0
/-- The buffer of the half to send. -/
abbrev sM : Memref sig .tc .vmem S256x256 .f32 := Memref.whole cc0_scratch0
/-- The buffer of the half to keep. -/
abbrev kM : Memref sig .tc .vmem S256x256 .f32 := Memref.whole cc0_scratch1
/-- The buffer the peer's half lands in. -/
abbrev rM : Memref sig .tc .vmem S256x256 .f32 := Memref.whole cc0_scratch2
/-- The half of `x` device `c` sends. -/
abbrev outM (c : Dev nD) : Memref sig .tc .hbm S256x256 .f32 :=
  (xM.slice (Rect.unit (s := S1x256x512) (k0_off1 c) S1x256x256.size (k0_off1_inb c)) (fun _ => rfl)).squeeze S256x256 squeezes_S1x256x256_S256x256
/-- The half of `x` device `c` keeps. -/
abbrev ownM (c : Dev nD) : Memref sig .tc .hbm S256x256 .f32 :=
  (xM.slice (Rect.unit (s := S1x256x512) (k0_off2 c) S1x256x256.size (k0_off2_inb c)) (fun _ => rfl)).squeeze S256x256 squeezes_S1x256x256_S256x256

abbrev barS : Sem sig := (SemArray.scalar (sig.barrier 0 rfl) : Sems sig S_).sem
/-- The semaphores of the two copies inside the device: of the half to send, of the half to keep. -/
abbrev outS : DmaSem sig := ((cc0_scratch3.slice (Rect.unit (s := S2) ![0] S1.size inb_S2_S1_0)).squeeze S_ squeezes_S1_S_).sem
abbrev ownS : DmaSem sig := ((cc0_scratch3.slice (Rect.unit (s := S2) ![1] S1.size inb_S2_S1_1)).squeeze S_ squeezes_S1_S_).sem
abbrev txS : DmaSem sig := cc0_scratch4.sem
abbrev rxS : DmaSem sig := cc0_scratch5.sem

/-- The three semaphores of the exchange: barrier, send, receive. -/
abbrev ksem : Fin 3 → SemLoc sig := fun | 0 => .reg barS | 1 => .dma txS | 2 => .dma rxS
abbrev kcell (c : Dev nD) (k : Fin 3) : GSem nD τ sig := ((c : Thread nD τ), ksem k)

/-- Which of the three a semaphore is, if any. -/
def role (s : SemLoc sig) : Option (Fin 3) :=
  if s = ksem 0 then some 0 else if s = ksem 1 then some 1 else if s = ksem 2 then some 2 else none
theorem role_ksem (k : Fin 3) : role (ksem k) = some k := by revert k; decide

/-- The bytes a copy of one half credits. -/
abbrev N : ℕ := (rM : Memref sig .tc .vmem S256x256 .f32).view.dmaCredit
theorem N_pos : 0 < N := View.dmaCredit_pos _ (by decide)

/-! ## Contents -/

/-- The device's block of `x` at launch. -/
abbrev xAt (c : Dev nD) : Buf (Elt F) ((c : Thread nD τ).loc main_arg0) := m ((c : Thread nD τ).loc main_arg0)
/-- The half device `c` sends, the half it keeps. -/
def outgoing (c : Dev nD) : S256x256.Idx → Elt F .f32 := (outM c).view.read (Elt F) (xAt m c)
def kept (c : Dev nD) : S256x256.Idx → Elt F .f32 := (ownM c).view.read (Elt F) (xAt m c)
/-- The result on device `c`: what it kept plus what the peer sent. -/
def outAt (c : Dev nD) : S256x256.Idx → Elt F .f32 := k0_pay1 (kept m c) (outgoing m (peer c))

/-- The whole buffer `b` of device `c` holds `f`. -/
abbrev holds (c : Dev nD) (b : Ref sig .tc) (f : Buf (Elt F) ((c : Thread nD τ).loc b)) : sProp 𝕄 :=
  iprop(((c : Thread nD τ).loc b) ↦{fullShare} f)

/-! ## The schedule -/

/-- What the credit of each of the three cells of device `c` hands the waiter: the barrier, the peer's landing buffer and
    that the peer stands at round 0 of its receive cell; send, the sent half's buffer back; receive, the landing buffer
    holding the peer's half. -/
def pay (c : Dev nD) : Fin 3 → sProp 𝕄
  | 0 => iprop((∃ f, holds (peer c) cc0_scratch2 f) ∗ reached EB (kcell (peer c) 2) 0)
  | 1 => holds c cc0_scratch0 (outgoing m c)
  | 2 => holds c cc0_scratch2 (outgoing m (peer c))

/-- What each of the three cells is credited. -/
def units : Fin 3 → ℕ
  | 0 => 1
  | 1 => N
  | 2 => N
theorem units_pos (k : Fin 3) : 0 < units k := by
  fin_cases k
  · exact Nat.one_pos
  · exact N_pos
  · exact N_pos

omit [FloatOps F] in
instance pay_storable (c : Dev nD) (k : Fin 3) : BI.Storable (upEmb : UEmb _ 𝕄) (pay m c k) := by
  fin_cases k <;> unfold pay <;> infer_instance

/-- One round with one duty for each of the three cells of every device. -/
def Rd : Rounds.Schedule (GSem nD τ sig) Unit 𝕄 where
  duties g r := if r = 0 ∧ g.1.2 = .tc ∧ (role g.2).isSome then {()} else ∅
  unitless _ := False
  amount g _ _ := (role g.2).elim 1 units
  payload g _ _ := (role g.2).elim iprop(emp) (pay m g.1.1)
  amount_pos g _ _ _ := by
    cases role g.2 with
    | none => exact Nat.one_pos
    | some k => exact units_pos k

omit [FloatOps F] in
instance Rd_storable (g : GSem nD τ sig) (r : ℕ) (d : Unit) : BI.Storable (upEmb : UEmb _ 𝕄) ((Rd m).payload g r d) := by
  show BI.Storable upEmb ((role g.2).elim iprop(emp) (pay m g.1.1))
  cases role g.2 with
  | none => show BI.Storable upEmb iprop(emp); infer_instance
  | some k => exact pay_storable m g.1.1 k

omit [FloatOps F] in
theorem duties_at (c : Dev nD) (k : Fin 3) : (Rd m).duties (kcell c k) 0 = {()} :=
  if_pos ⟨rfl, rfl, by rw [role_ksem]; rfl⟩
omit [FloatOps F] in
theorem duty_mem (c : Dev nD) (k : Fin 3) : () ∈ (Rd m).duties (kcell c k) 0 := by rw [duties_at]; exact Finset.mem_singleton_self _
omit [FloatOps F] in
theorem duties_later (g : GSem nD τ sig) (r : ℕ) (hr : 1 ≤ r) : (Rd m).duties g r = ∅ :=
  if_neg fun h => absurd h.1 (by omega)
omit [FloatOps F] in
theorem amount_at (c : Dev nD) (k : Fin 3) : (Rd m).amount (kcell c k) 0 () = units k := by
  show (role (ksem k)).elim 1 units = units k
  rw [role_ksem]; rfl
omit [FloatOps F] in
theorem payload_at (c : Dev nD) (k : Fin 3) : (Rd m).payload (kcell c k) 0 () = pay m c k := by
  show (role (ksem k)).elim iprop(emp) (pay m c) = pay m c k
  rw [role_ksem]; rfl
omit [FloatOps F] in
theorem expect_at (c : Dev nD) (k : Fin 3) : (Rd m).expect (kcell c k) 0 = units k := by
  unfold Schedule.expect Schedule.amountOf
  rw [duties_at, Finset.sum_singleton, amount_at]
omit [FloatOps F] in
theorem rest_at (c : Dev nD) (k : Fin 3) :
    bigSep ((Rd m).duties (kcell c k) 0 \ ∅) (fun d => (Rd m).payload (kcell c k) 0 d) = pay m c k := by
  rw [Finset.sdiff_empty, duties_at, bigSep_singleton, payload_at]

/-! ## What a device owes at launch, and the order of the waits -/

/-- At launch a device owes its peer the remote copy's bytes and the barrier's unit. -/
def O₀ (c : Dev nD) : CellTallies nD τ sig Unit := tallyAt (kcell (peer c) 2) () N + tallyAt (kcell (peer c) 0) () 1

def L (g : GSem nD τ sig) : Finset Unit := if g.1.2 = .tc then {()} else ∅
/-- Barrier cells at level 1, receive cells at level 2, everything else at 0. -/
def lv (g : GSem nD τ sig) (_ : Unit) : ℕ := if g.2 = ksem 0 then 1 else if g.2 = ksem 2 then 2 else 0

theorem L_of_ne (g : GSem nD τ sig) (h : g.1.2 ≠ .tc) : L g = ∅ := if_neg h
theorem L_tc (c : Dev nD) (s : SemLoc sig) : () ∈ L ((c : Thread nD τ), s) := Finset.mem_singleton_self _

theorem owed_recv {c : Dev nD} {g : GSem nD τ sig} {u : Unit} (h : 0 < tallyAt (kcell (peer c) 2) () N g u) : g = kcell (peer c) 2 := by
  rw [tallyAt_apply] at h
  by_contra hn
  rw [if_neg fun h' => hn h'.1] at h
  exact Nat.lt_irrefl 0 h
theorem owed_start {c : Dev nD} {g : GSem nD τ sig} {u : Unit} (h : 0 < O₀ c g u) : g = kcell (peer c) 2 ∨ g = kcell (peer c) 0 := by
  unfold O₀ at h
  rw [Pi.add_apply, Finsupp.add_apply] at h
  by_contra hn
  rw [not_or] at hn
  rw [tallyAt_apply, tallyAt_apply, if_neg (fun h' => hn.1 h'.1), if_neg (fun h' => hn.2 h'.1)] at h
  exact Nat.lt_irrefl 0 h

theorem lv_bar (c : Dev nD) : lv (kcell c 0) () = 1 := if_pos rfl
theorem lv_recv (c : Dev nD) : lv (kcell c 2) () = 2 := (if_neg (by decide : ksem 2 ≠ ksem 0)).trans (if_pos rfl)
theorem lv_low (c : Dev nD) (s : SemLoc sig) (h0 : s ≠ ksem 0) (h2 : s ≠ ksem 2) : lv ((c : Thread nD τ), s) () = 0 :=
  (if_neg h0).trans (if_neg h2)

omit [FloatOps F] in
/-- A device may wait on any semaphore below the receive semaphore while it owes its peer the remote copy. -/
theorem mayWait_recv (c : Dev nD) (s : SemLoc sig) (hs : lv ((c : Thread nD τ), s) () ≤ 1) :
    (levAts L lv : sProp 𝕄) ⊢ MayWait (c : Thread nD τ) s () (tallyAt (kcell (peer c) 2) () N) :=
  MayOwe.of_cut (L := L) (lev := lv) 1 (fun p hp => by rw [Finset.mem_singleton.mp hp]; exact L_tc c _)
    (fun g u hg => by rw [owed_recv hg]; exact L_tc _ _)
    (fun p hp => by rw [Finset.mem_singleton.mp hp]; exact hs)
    (fun g u hg => by rw [owed_recv hg, lv_recv]; exact Nat.one_lt_two)

omit [FloatOps F] in
/-- A device may wait on a semaphore at level 0 owing what it owes at launch. -/
theorem mayWait_start (c : Dev nD) (s : SemLoc sig) (hs : lv ((c : Thread nD τ), s) () = 0) :
    (levAts L lv : sProp 𝕄) ⊢ MayWait (c : Thread nD τ) s () (O₀ c) :=
  MayOwe.of_cut (L := L) (lev := lv) 0 (fun p hp => by rw [Finset.mem_singleton.mp hp]; exact L_tc c _)
    (fun g u hg => by rcases owed_start hg with rfl | rfl <;> exact L_tc _ _)
    (fun p hp => by rw [Finset.mem_singleton.mp hp]; exact hs.le)
    (fun g u hg => by
      rcases owed_start hg with rfl | rfl
      · rw [lv_recv]; exact Nat.two_pos
      · rw [lv_bar]; exact Nat.one_pos)

end Cert.Swap

end
-- ==== Proof.Body.lean ====
/-
# The kernel's body on one device, run from start to end

What a device holds when the kernel starts and when it ends, and the proof that its body takes the one to the other,
each operation by the library's rule for it, in the order of the program.
-/
module

public import proofs.«01_k».proof.Proof.Protocol

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Two readers of `x` at once -/

omit [FloatOps F] in
/-- A whole buffer is a half share of it and the other half share, each cut into a part to read and the rest: what two
    copies out of one buffer need at the same time. -/
theorem lend (ℓ : Loc nD τ sig) (f : Buf (Elt F) ℓ) (I J : Finset (Idx ℓ)) :
    (ℓ ↦{fullShare} f : sProp 𝕄)
      ⊣⊢ iprop(((ℓ ↦[I]{fullShare.left} f) ∗ ℓ ↦[Finset.univ \ I]{fullShare.left} f)
          ∗ ((ℓ ↦[J]{fullShare.right} f) ∗ ℓ ↦[Finset.univ \ J]{fullShare.right} f)) := by
  have h := pointsTo_share (Ix := Unit) (Name := ℕ) (U := UU) (Lvl := ℕ) (ℓ := ℓ) (I := Finset.univ) (f := f) (PosShare.mem_left_op_right fullShare)
  have hI := pointsTo_split_subset (Ix := Unit) (Name := ℕ) (U := UU) (Lvl := ℕ) (ℓ := ℓ) (q := fullShare.left) (f := f) (Finset.subset_univ I)
  have hJ := pointsTo_split_subset (Ix := Unit) (Name := ℕ) (U := UU) (Lvl := ℕ) (ℓ := ℓ) (q := fullShare.right) (f := f) (Finset.subset_univ J)
  exact ⟨h.1.trans (BIClass.sep_mono hI.1 hJ.1), (BIClass.sep_mono hI.2 hJ.2).trans h.2⟩

/-! ## What a device starts from and ends with -/

/-- The invariants a device's body opens: of its own three cells, of its peer's barrier cell and receive cell. -/
def invs (K : Dev nD × Fin 3 → ℕ) (c : Dev nD) : sProp 𝕄 :=
  iprop(cellInv EB (Rd m) (K (c, 0)) (kcell c 0) ∗ cellInv EB (Rd m) (K (c, 1)) (kcell c 1) ∗ cellInv EB (Rd m) (K (c, 2)) (kcell c 2)
    ∗ cellInv EB (Rd m) (K (peer c, 0)) (kcell (peer c) 0) ∗ cellInv EB (Rd m) (K (peer c, 2)) (kcell (peer c) 2))

omit [FloatOps F] in
instance invs_persistent (K : Dev nD × Fin 3 → ℕ) (c : Dev nD) : BI.Persistent (invs m K c) := by unfold invs; infer_instance

/-- The marks that the cells a device talks to stand at round 0. -/
def marks (c : Dev nD) : sProp 𝕄 :=
  iprop(reached EB (kcell (peer c) 0) 0 ∗ reached EB (kcell c 1) 0 ∗ reached EB (kcell c 2) 0)

omit [FloatOps F] in
instance marks_persistent (c : Dev nD) : BI.Persistent (marks (F := F) c) := by unfold marks; infer_instance

/-- A device's positions on its own three cells. -/
def places (c : Dev nD) : sProp 𝕄 :=
  iprop(atPos EB (kcell c 0) 0 ∅ 0 ∗ atPos EB (kcell c 1) 0 ∅ 0 ∗ atPos EB (kcell c 2) 0 ∅ 0)

/-- The tokens of the three duties a device pays: its peer's barrier, its own send cell, its peer's receive cell. -/
def dues (c : Dev nD) : sProp 𝕄 :=
  iprop(dutyTok EB (kcell (peer c) 0) 0 () ∗ dutyTok EB (kcell c 1) 0 () ∗ dutyTok EB (kcell (peer c) 2) 0 ())

/-- The counters of the two semaphores of the copies inside the device, at zero. -/
def idle (c : Dev nD) : sProp 𝕄 :=
  iprop(semVal ((c : Thread nD τ), .dma outS) 0 ∗ semVal ((c : Thread nD τ), .dma ownS) 0)

/-- What the global step deals device `c`. -/
def dealt (c : Dev nD) : sProp 𝕄 :=
  iprop((∃ K, invs m K c) ∗ marks c ∗ places c ∗ dues c ∗ idle c)

/-- What device `c` enters the kernel with, the scratch buffers apart: what was dealt, the tokens that its barrier cell
    and its receive cell will be credited, the levels, and its block of `x`. -/
def start (c : Dev nD) : sProp 𝕄 :=
  iprop(dealt m c ∗ cred (tallyAt (kcell c 0) () 1) ∗ cred (tallyAt (kcell c 2) () N) ∗ levAts L lv ∗ holds c main_arg0 (xAt m c))

def Φ₀ (c : Dev nD) : sProp 𝕄 :=
  iprop(start m c ∗ (∃ f, holds c cc0_scratch0 f) ∗ (∃ f, holds c cc0_scratch1 f) ∗ (∃ f, holds c cc0_scratch2 f))

/-- What it leaves with: its block of `x` as it was, the three scratch buffers with the halves in them, every counter
    at zero. -/
def Φ₁ (c : Dev nD) : sProp 𝕄 :=
  iprop(holds c main_arg0 (xAt m c)
    ∗ (holds c cc0_scratch0 (outgoing m c) ∗ holds c cc0_scratch1 (kept m c) ∗ holds c cc0_scratch2 (outgoing m (peer c)))
    ∗ (semVal (kcell c 0) 0 ∗ semVal (kcell c 1) 0 ∗ semVal (kcell c 2) 0) ∗ idle c)

/-- The pipeline's data: one window, the result, written with the sum of the two halves at the only grid point. -/
def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

theorem cfg0_N : cfg0.N = 1 := by decide
def t₀ : Fin cfg0.N := ⟨0, by rw [cfg0_N]; decide⟩
theorem only_t₀ (t : Fin cfg0.N) : t = t₀ := Fin.ext (by have := t.isLt; have := cfg0_N; show t.val = 0; omega)

omit [FloatOps F] in
theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ holds c b f) := by
  unfold owns; simp only [Memref.view_whole, View.read_whole, View.set_whole]

/-! ## Reading and writing whole buffers -/

/-- The rectangle the loads and the store go through: all of a half. -/
abbrev rAll : Rect S256x256 := Rect.unit (s := S256x256) ![0, 0] S256x256.size inb_S256x256_S256x256_0_0
theorem zero_off : (![0, 0] : Fin 2 → Nat) = fun _ => 0 := funext fun a => by fin_cases a <;> rfl

omit [FloatOps F] in
theorem read_kept (f : (cc0_scratch1 : Ref sig .tc).ty.Contents (Elt F)) : (kM : Memref sig .tc .vmem S256x256 .f32).view.readAt (Elt F) rAll.toLoadRect f = f :=
  Memref.readAt_unit_zero (Elt F) cc0_scratch1 zero_off _ f
omit [FloatOps F] in
theorem read_landed (f : (cc0_scratch2 : Ref sig .tc).ty.Contents (Elt F)) : (rM : Memref sig .tc .vmem S256x256 .f32).view.readAt (Elt F) rAll.toLoadRect f = f :=
  Memref.readAt_unit_zero (Elt F) cc0_scratch2 zero_off _ f
omit [FloatOps F] in
theorem write_out (f w : (cc0_stg0_0 : Ref sig .tc).ty.Contents (Elt F)) :
    ((oM : Memref sig .tc .vmem S256x256 .f32).access rAll : View sig .tc _ _ _).write (Elt F) f w Finset.univ = w :=
  Memref.write_access_unit_zero_univ (Elt F) cc0_stg0_0 zero_off _ f w

omit [FloatOps F] in
/-- A copy into the whole of a buffer leaves what was copied. -/
theorem filled (b : Ref sig .tc) (f : b.ty.Contents (Elt F)) (w : b.ty.Contents (Elt F)) :
    (Memref.whole b : Memref sig .tc b.space b.ty.shape b.ty.elt).view.write (Elt F) f w Finset.univ = w :=
  View.write_whole_univ _ _ _

/-! ## The body -/

section Body

variable (K : Dev nD × Fin 3 → ℕ)

/-- The remote copy to the peer: it takes the half to send and the peer's landing buffer, and leaves the token of the
    send cell's credit and nothing owed. -/
theorem wp_send_half (c n : Dev nD) (hn : n = peer c) {hsc : (rM : Memref sig (Dev.tc n : Thread nD τ).2.kind .vmem S256x256 .f32).view.ref.isScScratch = false}
    {hsrc : (sM : Memref sig .tc .vmem S256x256 .f32).view.WordExact} {hdst : (rM : Memref sig .tc .vmem S256x256 .f32).view.WordExact}
    {hsem : DmaTarget.Typed .vmem (.dma rxS) (.remote (Dev.tc n : Thread nD τ) (rM : Memref sig .tc .vmem S256x256 .f32) (.dma txS) hsc)}
    {α : Type} {Q : α → sProp 𝕄} {k : PUnit → Prog (TpuEff nD τ sig (Elt F) Λ₀ .tc) α}
    (fn : Buf (Elt F) ((peer c : Thread nD τ).loc cc0_scratch2)) (W : Waits sig Unit) :
    iprop(cellInv EB (Rd m) (K (c, 1)) (kcell c 1) ∗ cellInv EB (Rd m) (K (peer c, 2)) (kcell (peer c) 2)
        ∗ holds c cc0_scratch0 (outgoing m c) ∗ holds (peer c) cc0_scratch2 fn
        ∗ owes (c : Thread nD τ) (tallyAt (kcell (peer c) 2) () N) W
        ∗ dutyTok EB (kcell c 1) 0 () ∗ reached EB (kcell c 1) 0
        ∗ dutyTok EB (kcell (peer c) 2) 0 () ∗ reached EB (kcell (peer c) 2) 0)
      ⊢ iprop(((cred (tallyAt (kcell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc n : Thread nD τ) rM (.dma txS) hsc) (.dma rxS) hsrc hdst hsem) k) Q) := by
  subst hn
  have hs : (sM : Memref sig .tc .vmem S256x256 .f32).view.set = Finset.univ := View.set_whole _
  have hr : (rM : Memref sig .tc .vmem S256x256 .f32).view.set = Finset.univ := View.set_whole _
  rw [show (holds c cc0_scratch0 (outgoing m c) : sProp 𝕄) = ((sM : Memref sig .tc .vmem S256x256 .f32).view.loc (c : Thread nD τ)
        ↦[(sM : Memref sig .tc .vmem S256x256 .f32).view.set]{fullShare} outgoing m c) from by rw [hs],
    show (holds (peer c) cc0_scratch2 fn : sProp 𝕄) = ((rM : Memref sig .tc .vmem S256x256 .f32).view.loc (peer c : Thread nD τ)
        ↦[(rM : Memref sig .tc .vmem S256x256 .f32).view.set]{fullShare} fn) from by rw [hr]]
  exact Rounds.wp_send_pointsTo (defs := defs₀ (F := F)) (c' := (Dev.tc (peer c) : Thread nD τ)) (src := sM) (dst := rM) (hsc := hsc) (hsrc := hsrc) (hdst := hdst) (hsem := hsem)
    𝒱₀ EB (Rd m) (c : Thread nD τ) none (κ₁ := K (c, 1)) (κ₂ := K (peer c, 2))
    (r₁ := 0) (r₂ := 0) (d₁ := ()) (d₂ := ()) (fd := fn) (duty_mem m c 1) (duty_mem m (peer c) 2)
    () () N rfl (amount_at m c 1) (amount_at m (peer c) 2) 0 (by rw [zero_add]) (W := W)
    (by rw [hs]; exact Entails.of_eq (payload_at m c 1).symm)
    (by
      rw [hr]
      refine Entails.of_eq (Eq.trans ?_ (payload_at m (peer c) 2).symm)
      unfold pay
      rw [peer_peer]
      exact congrArg (holds (peer c) cc0_scratch2) (filled cc0_scratch2 fn (outgoing m c)))

/-- A copy of the half to send, or of the half to keep, into a whole scratch buffer `b`, started: what it delivers is
    the buffer holding the half and the share of `x` it reads. -/
theorem wp_copy_half (c : Dev nD) (src : Memref sig .tc .hbm S256x256 .f32) (q : PosShare TreeShare)
    (dst : Memref sig .tc .vmem S256x256 .f32) (hset : dst.view.set = Finset.univ)
    (f : Buf (Elt F) (src.view.loc (c : Thread nD τ))) (fd w : Buf (Elt F) (dst.view.loc (c : Thread nD τ)))
    (hw : dst.view.write (Elt F) fd (src.view.read (Elt F) f) Finset.univ = w) (s : DmaSem sig)
    {hsrc : src.view.WordExact} {hdst : dst.view.WordExact} {hsem : DmaTarget.Typed (nD := nD) (τ := τ) (p := .tc) .hbm (.dma s) (.here dst)}
    {α : Type} {Q : α → sProp 𝕄} {k : PUnit → Prog (TpuEff nD τ sig (Elt F) Λ₀ .tc) α} :
    iprop((src.view.loc (c : Thread nD τ) ↦[src.view.set]{q} f) ∗ (dst.view.loc (c : Thread nD τ) ↦{fullShare} fd) ∗ semVal ((c : Thread nD τ), .dma s) 0)
      ⊢ iprop((Transfers.Flight EC (c : Thread nD τ) (.dma s) () dst.view.dmaCredit
              iprop((dst.view.loc (c : Thread nD τ) ↦{fullShare} w) ∗ (src.view.loc (c : Thread nD τ) ↦[src.view.set]{q} f))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  subst hw
  exact Transfers.wp_dmaLocal EC 𝒱₀ (c : Thread nD τ) none (src := src) (dst := dst) (via := ReadAs.same) () dst.view.dmaCredit rfl
    (View.dmaCredit_pos _ (by decide)) (Finset.subset_univ _)

abbrev stg (c : Dev nD) (X : (cc0_stg0_0 : Ref sig .tc).ty.Contents (Elt F)) : sProp 𝕄 :=
  iprop(∃ f : Buf (Elt F) (((c : Dev nD) : Thread nD τ).loc cc0_stg0_0), ⌜f = X⌝ ∗ holds c cc0_stg0_0 f)

def bodyPre (c : Dev nD) : sProp 𝕄 :=
  iprop(Φ₀ m c ∗ (dats m 0 c).owesAt () t₀.castSucc ∗ (∃ d, stg c ((dats m 0 c).before (0 : Fin 1) t₀ d)))

def bodyPost (c : Dev nD) : sProp 𝕄 :=
  iprop(Φ₁ m c ∗ (dats m 0 c).owesAt () t₀.succ ∗ stg c (outAt m c))

set_option maxHeartbeats 1600000 in
/-- The body takes what a device starts from to what it ends with, operation by operation. -/
theorem sound_body (c : Dev nD) :
    bodyPre m c
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5) (fun _ => bodyPost m c) := by
  simp only [cc0_body_eq_skeleton]; unfold cc0_body_skel
  simp only [k0_part1_eq_skeleton]; unfold k0_part1_skel
  simp only [semSignalWord, semWaitWord, Prog.lift, Prog.bind_op, Prog.bind_ret, Prog.pure_eq_ret, wp_deviceId]
  unfold bodyPre Φ₀ start dealt places dues idle marks invs
  iintro ⟨⟨⟨⟨⟨%K, #HI0, #HI1, #HI2, #HIp0, #HIp2⟩, ⟨#Hm0, #Hm1, #Hm2⟩, ⟨Ha0, Ha1, Ha2⟩, ⟨Ht0, Ht1, Ht2⟩, ⟨HvO, HvK⟩⟩, Hc0, Hc2, #Hlev, Hx⟩,
    ⟨%fs, Hs⟩, ⟨%fk, Hk⟩, ⟨%fr, Hr⟩⟩, Ho, ⟨%d, %g, %hg, Hout⟩⟩
  clear hg
  unfold Dat.owesAt Pipeline.owesWithin
  icases Ho with ⟨%W, %hW, HO⟩
  rw [show (dats m 0 c).owed t₀.castSucc = O₀ c from rfl]
  simp only [dev1_eq c]
  -- the signal to the peer's barrier, with this device's landing buffer
  unfold O₀
  iapply (Rounds.wp_signal 𝒱₀ EB (Rd m) (c : Thread nD τ) none (dst := (peer c : Thread nD τ)) (κ := K (peer c, 0))
      (d := ()) (duty_mem m (peer c) 0) ((amount_at m (peer c) 0).trans (by decide)) () (tallyAt (kcell (peer c) 2) () N) rfl) $$ [HO Ht0 Hr]
  · isplitr; · iexact HIp0
    isplitl [HO]; · iexact HO
    isplitl [Ht0]; · iexact Ht0
    isplitl [Hr]
    · iapply (Entails.of_eq (payload_at m (peer c) 0).symm)
      unfold pay; rw [peer_peer]
      isplitl [Hr]; · iexists fr; iexact Hr
      iexact Hm2
    iexact Hm0
  iintro HO
  -- the two copies inside the device, out of the two half shares of `x`
  ihave Hx := ((lend ((c : Thread nD τ).loc main_arg0) (xAt m c) (outM c).view.set (ownM c).view.set).1) $$ Hx
  icases Hx with ⟨⟨HxO, HxO'⟩, HxK, HxK'⟩
  iapply (wp_copy_half c (outM c) fullShare.left sM (View.set_whole _) (xAt m c) fs (outgoing m c) (filled cc0_scratch0 fs (outgoing m c)) outS) $$ [HxO Hs HvO]
  · isplitl [HxO]; · iexact HxO
    isplitl [Hs]; · iexact Hs
    iexact HvO
  iintro HfO
  iapply (wp_copy_half c (ownM c) fullShare.right kM (View.set_whole _) (xAt m c) fk (kept m c) (filled cc0_scratch1 fk (kept m c)) ownS) $$ [HxK Hk HvK]
  · isplitl [HxK]; · iexact HxK
    isplitl [Hk]; · iexact Hk
    iexact HvK
  iintro HfK
  -- the half to send has arrived in its buffer
  iapply (Transfers.wp_waitLocalO EC 𝒱₀ (c : Thread nD τ) none () (dstw := sM) rfl) $$ [HfO HO]
  · isplitl [HfO]; · iexact HfO
    isplitl [HO]; · iexact HO
    iapply (mayWait_recv c (.dma outS) ((lv_low c _ (by decide) (by decide)).le.trans (Nat.zero_le 1))); iexact Hlev
  iintro ⟨⟨Hs, HxO⟩, HvO, HO⟩
  -- the peer has signalled: its landing buffer is here
  iapply (Rounds.wp_wait_rest_token 𝒱₀ EB (Rd m) (c : Thread nD τ) none (κ := K (c, 0))
      (wpE_semWait_eq 𝒱₀ (c : Thread nD τ) none Set.univ) (Set.mem_univ _) () (O := tallyAt (kcell (peer c) 2) () N) (R := 0) (m := 0) (T := ∅)
      (by show _ = (Rd m).expect (kcell c 0) 0; rw [expect_at]; rfl)) $$ [Hc0 HO Ha0]
  · isplitr; · iexact HI0
    isplitl [Hc0]; · iexact Hc0
    isplitl [HO]; · iexact HO
    isplitr; · iapply (mayWait_recv c (ksem 0) (lv_bar c).le); iexact Hlev
    iexact Ha0
  iintro ⟨HO, Ha0, -, Hpay⟩
  ihave Hp := (Entails.of_eq (rest_at m c 0)) $$ Hpay
  unfold pay
  icases Hp with ⟨⟨%fn, HrP⟩, #HmP⟩
  -- the remote copy
  iapply (wp_send_half m K c _ (dev2_eq c) fn _) $$ [Hs HrP HO Ht1 Ht2]
  · isplitr; · iexact HI1
    isplitr; · iexact HIp2
    isplitl [Hs]; · iexact Hs
    isplitl [HrP]; · iexact HrP
    isplitl [HO]; · iexact HO
    isplitl [Ht1]; · iexact Ht1
    isplitr; · iexact Hm1
    isplitl [Ht2]; · iexact Ht2
    iexact HmP
  iintro ⟨Hc1, HO⟩
  -- the peer's half has landed
  iapply (Rounds.wp_wait_rest_token 𝒱₀ EB (Rd m) (c : Thread nD τ) none (κ := K (c, 2))
      (wpE_waitDma2_eq 𝒱₀ (c : Thread nD τ) none Set.univ) (Set.mem_univ _) () (O := 0) (R := 0) (m := 0) (T := ∅)
      (by show _ = (Rd m).expect (kcell c 2) 0; rw [Nat.zero_add, expect_at]; rfl)) $$ [Hc2 HO Ha2]
  · isplitr; · iexact HI2
    isplitl [Hc2]; · iexact Hc2
    isplitl [HO]; · iexact HO
    isplitr; · rw [MayWait_zero]; iempintro
    iexact Ha2
  iintro ⟨HO, Ha2, -, Hpay⟩
  ihave Hr := (Entails.of_eq (rest_at m c 2)) $$ Hpay
  unfold pay
  -- the half to keep has arrived in its buffer
  iapply (Transfers.wp_waitLocalO EC 𝒱₀ (c : Thread nD τ) none () (dstw := kM) rfl) $$ [HfK HO]
  · isplitl [HfK]; · iexact HfK
    isplitl [HO]; · iexact HO
    rw [MayWait_zero]; iempintro
  iintro ⟨⟨Hk, HxK⟩, HvK, HO⟩
  ihave Hx := ((lend ((c : Thread nD τ).loc main_arg0) (xAt m c) (outM c).view.set (ownM c).view.set).2) $$ [HxO HxO' HxK HxK']
  · isplitl [HxO HxO']
    · isplitl [HxO] <;> iassumption
    · isplitl [HxK] <;> iassumption
  -- the sum
  iapply (wp_load 𝒱₀ (c : Thread nD τ) none Set.univ (m := kM) (Finset.subset_univ _)) $$ Hk; iintro Hk
  rw [read_kept]
  iapply (wp_load 𝒱₀ (c : Thread nD τ) none Set.univ (m := rM) (Finset.subset_univ _)) $$ Hr; iintro Hr
  rw [read_landed]
  iapply (wp_load 𝒱₀ (c : Thread nD τ) none Set.univ (m := oM) (Finset.subset_univ _)) $$ Hout; iintro Hout
  iapply (wp_store 𝒱₀ (c : Thread nD τ) none Set.univ (m := oM) (r := rAll) (Mk := Finset.univ) (Finset.subset_univ _)) $$ Hout; iintro Hout
  rw [write_out]
  -- the sent half's buffer comes back
  iapply (Rounds.wp_wait_rest_token 𝒱₀ EB (Rd m) (c : Thread nD τ) none (κ := K (c, 1))
      (wpE_waitDma2_eq 𝒱₀ (c : Thread nD τ) none Set.univ) (Set.mem_univ _) () (O := 0) (R := 0) (m := 0) (T := ∅)
      (by show _ = (Rd m).expect (kcell c 1) 0; rw [Nat.zero_add, expect_at]; rfl)) $$ [Hc1 HO Ha1]
  · isplitr; · iexact HI1
    isplitl [Hc1]; · iexact Hc1
    isplitl [HO]; · iexact HO
    isplitr; · rw [MayWait_zero]; iempintro
    iexact Ha1
  iintro ⟨HO, Ha1, -, Hpay⟩
  ihave Hs := (Entails.of_eq (rest_at m c 1)) $$ Hpay
  unfold pay
  -- the three cells close
  imod (Rounds.cell_close EB (Rd m) (Set.mem_univ (K (c, 0))) (fun h => h) (R := 0 + 1) (duties_later m (kcell c 0))) $$ [Ha0] with Hv0
  · isplitr; · iexact HI0
    iexact Ha0
  imod (Rounds.cell_close EB (Rd m) (Set.mem_univ (K (c, 1))) (fun h => h) (R := 0 + 1) (duties_later m (kcell c 1))) $$ [Ha1] with Hv1
  · isplitr; · iexact HI1
    iexact Ha1
  imod (Rounds.cell_close EB (Rd m) (Set.mem_univ (K (c, 2))) (fun h => h) (R := 0 + 1) (duties_later m (kcell c 2))) $$ [Ha2] with Hv2
  · isplitr; · iexact HI2
    iexact Ha2
  rw [wp_ret]; imodintro
  unfold bodyPost Φ₁ idle Dat.owesAt Pipeline.owesWithin
  rw [show (dats m 0 c).owed t₀.succ = 0 from rfl]
  isplitl [Hx Hs Hk Hr Hv0 Hv1 Hv2 HvO HvK]
  · isplitl [Hx]; · iexact Hx
    isplitl [Hs Hk Hr]
    · isplitl [Hs]; · iexact Hs
      isplitl [Hk] <;> iassumption
    isplitl [Hv0 Hv1 Hv2]
    · isplitl [Hv0]; · iexact Hv0
      isplitl [Hv1] <;> iassumption
    isplitl [HvO] <;> iassumption
  isplitl [HO]
  · iexists _
    isplitr; rotate_left
    · iexact HO
    ipureintro; exact fun _ _ => Or.inl trivial
  iexists _; isplitr; · (ipureintro; rfl)
  iexact Hout

set_option maxRecDepth 4000 in
/-- The body meets what the pipeline asks of it, on every device. -/
theorem body_obligation (c : Dev nD) : BodyObligation (dats (F := F) m 0 c) (defs₀ (F := F)) 𝒱₀ () Set.univ := fun t => by
  rw [only_t₀ t, bigSep_W0, bigSep_W0]
  simp only [owns_whole]
  exact sound_body m c

end Body

end Cert.Swap

end
-- ==== Proof.Run.lean ====
/-
# The run of the whole mesh

The ghost state is dealt to the eight devices, each device pays its peer's cells and waits on its own, and the launch
theorem joins the eight bodies into one run of the program: it ends, the result array of every device holds the sum of
the half it kept and the half it was sent, `x` is as it was, and every semaphore counter is at zero.
-/
module

public import proofs.«01_k».proof.Proof.Body
public import Idealize.ShloMosaic.Lib.Pipeline.CollectiveSegs

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The kernel's own semaphores: of the two copies inside the device, of the remote copy's two ends. -/
abbrev osem : Fin 4 → SemLoc sig := fun | 0 => .dma outS | 1 => .dma ownS | 2 => .dma txS | 3 => .dma rxS
theorem ownSemFacts : Pipeline.OwnSemFacts cfg0.spec osem := by decide

theorem share_eq (c : Dev nD) (w : Fin cfg0.W) : (dats m 0 c).share w = fullShare := (dats m 0 c).share_full (fun _ => rfl) w

/-! ## Every cell of the mesh, and what is minted for it -/

/-- A cell of the exchange, by its device and which of the three it is. -/
abbrev cellAt (p : Dev nD × Fin 3) : GSem nD τ sig := kcell p.1 p.2
theorem ksem_inj : Function.Injective ksem := fun a b h => by
  have := congrArg role h
  rw [role_ksem, role_ksem] at this
  exact Option.some.inj this
theorem cellAt_inj : Function.Injective cellAt := fun p q h =>
  Prod.ext (congrArg (fun g : GSem nD τ sig => g.1.1) h) (ksem_inj (congrArg Prod.snd h))
def allCells : Finset (GSem nD τ sig) := Finset.univ.map ⟨cellAt, cellAt_inj⟩
def allToks : Finset (GSem nD τ sig × ℕ × Unit) :=
  Finset.univ.map ⟨fun p : Dev nD × Fin 3 => (cellAt p, 0, ()), fun p q h => cellAt_inj (congrArg Prod.fst h)⟩

def u₀ : UU :=
  (initOf (Pipeline.cells cfgs cellOf_inj) (Pipeline.launchToks cfgs cellOf_inj), (initOf allCells allToks, 1))

/-- Something said of each of a device's three cells. -/
abbrev each (Φ : Fin 3 → sProp 𝕄) : sProp 𝕄 := bigSep Finset.univ Φ

omit [FloatOps F] in
theorem each_eq (Φ : Fin 3 → sProp 𝕄) : each Φ = iprop(Φ 0 ∗ Φ 1 ∗ Φ 2) := bigSep_univ_eq_bigSepL [0, 1, 2] (by decide) (by decide) Φ

/-- What the launch hands device `c` for its own three cells: their states, its positions, the marks, the duty tokens. -/
def minted (c : Dev nD) : sProp 𝕄 :=
  iprop(each (fun k => roundState EB (Rd m) (kcell c k) 0) ∗ each (fun k => atPos EB (kcell c k) 0 ∅ 0)
    ∗ each (fun k => reached EB (kcell c k) 0) ∗ each (fun k => dutyTok EB (kcell c k) 0 ()))

omit [FloatOps F] in
/-- The exchange's launch element pays for what every device is handed. -/
theorem mint : BI.own (EB (initOf allCells allToks)) ⊢ (|==> bigSep Finset.univ (minted m) : sProp 𝕄) := by
  have hC (Φ : GSem nD τ sig → sProp 𝕄) : bigSep allCells Φ = bigSep Finset.univ fun c : Dev nD => each fun k => Φ (kcell c k) := by
    unfold allCells; rw [bigSep_map, bigSep_univ_prod]; rfl
  have hT : bigSep allToks (fun x => (dutyTok EB x.1 x.2.1 x.2.2 : sProp 𝕄)) = bigSep Finset.univ fun c : Dev nD => each fun k => dutyTok EB (kcell c k) 0 () := by
    unfold allToks; rw [bigSep_map, bigSep_univ_prod]; rfl
  iintro H
  imod (Rounds.fund EB (Rd m) allCells allToks) $$ H with ⟨Hst, Hr, Hat, Htok⟩
  imodintro
  unfold minted
  rw [bigSep_sep', bigSep_sep', bigSep_sep', ← hC fun g => roundState EB (Rd m) g 0, ← hC fun g => atPos EB g 0 ∅ 0, ← hC fun g => reached EB g 0, ← hT]
  isplitl [Hst]; · iexact Hst
  isplitl [Hat]; · iexact Hat
  isplitl [Hr] <;> iassumption

/-! ## The counters at launch -/

omit [FloatOps F] in
theorem ownSems0_eq (c : Dev nD) : (Pipeline.ownSems0 (Ix := Unit) (Name := ℕ) (U := UU) (Lvl := ℕ) (Val := Elt F) (τ := τ) osem c : sProp 𝕄)
    = iprop(semVal ((c : Thread nD τ), .dma outS) 0 ∗ semVal ((c : Thread nD τ), .dma ownS) 0 ∗ semVal (kcell c 1) 0 ∗ semVal (kcell c 2) 0) := by
  rw [Pipeline.ownSems0_eq_of_list c osem [0, 1, 2, 3] (by decide) (by decide)]; rfl
omit [FloatOps F] in
theorem unscopedSems0_eq (c : Dev nD) : (unscopedSems0 c : sProp 𝕄) = semVal (kcell c 0) 0 := by
  unfold unscopedSems0; rw [bigSep_eq_bigSepL_of_eq [SemLoc.reg barS] (by decide) (by decide)]; rfl

/-- A device's share after its own cells are set up: an invariant for each, positions, marks, tokens, idle counters. -/
def setUp (c : Dev nD) : sProp 𝕄 :=
  iprop(each (fun k => iprop(∃ κ : ℕ, cellInv EB (Rd m) κ (kcell c k))) ∗ each (fun k => reached EB (kcell c k) 0)
    ∗ places c ∗ each (fun k => dutyTok EB (kcell c k) 0 ()) ∗ idle c)

omit [FloatOps F] in
/-- A device's counters and what was minted for it set up its three cells. -/
theorem set_up (c : Dev nD) :
    iprop(Pipeline.ownSems0 (Ix := Unit) (Name := ℕ) (U := UU) (Lvl := ℕ) (Val := Elt F) (τ := τ) osem c ∗ unscopedSems0 c ∗ minted m c)
      ⊢ |={Set.univ}=> setUp m c := by
  have hinv : iprop(each (fun k => semVal (kcell c k) 0) ∗ each (fun k => roundState EB (Rd m) (kcell c k) 0))
      ⊢ (|={Set.univ}=> each fun k => iprop(∃ κ : ℕ, cellInv EB (Rd m) κ (kcell c k)) : sProp 𝕄) := by
    unfold each
    rw [← bigSep_sep']
    exact (bigSep_mono fun k _ => (Rounds.body_intro EB (Rd m) (kcell c k)).trans inv_alloc).trans (bigSep_fupd _ _)
  unfold minted setUp places idle
  rw [ownSems0_eq, unscopedSems0_eq, each_eq fun k => atPos EB (kcell c k) 0 ∅ 0]
  iintro ⟨⟨HO, HK, H1, H2⟩, H0, Hst, Hat, Hr, Htok⟩
  imod hinv $$ [H0 H1 H2 Hst] with HI
  · isplitr [Hst]
    · rw [each_eq]
      isplitl [H0]; · iexact H0
      isplitl [H1] <;> iassumption
    · iexact Hst
  imodintro
  isplitl [HI]; · iexact HI
  isplitl [Hr]; · iexact Hr
  isplitl [Hat]; · iexact Hat
  isplitl [Htok]; · iexact Htok
  isplitl [HO] <;> iassumption

/-! ## Dealing between peers -/

/-- Every invariant and every mark of the mesh. -/
def board (K : Dev nD × Fin 3 → ℕ) : sProp 𝕄 :=
  iprop((bigSep Finset.univ fun p : Dev nD × Fin 3 => cellInv EB (Rd m) (K p) (cellAt p))
    ∗ bigSep Finset.univ fun p : Dev nD × Fin 3 => reached EB (cellAt p) 0)

omit [FloatOps F] in
instance board_persistent (K : Dev nD × Fin 3 → ℕ) : BI.Persistent (board m K) := by unfold board; infer_instance

omit [FloatOps F] in
theorem board_inv (K : Dev nD × Fin 3 → ℕ) (c : Dev nD) (k : Fin 3) : board m K ⊢ cellInv EB (Rd m) (K (c, k)) (kcell c k) := by
  unfold board
  iintro ⟨H, -⟩
  iapply (show (bigSep Finset.univ fun p : Dev nD × Fin 3 => (cellInv EB (Rd m) (K p) (cellAt p) : sProp 𝕄)) ⊢ cellInv EB (Rd m) (K (c, k)) (kcell c k)
    from bigSep_elim (Finset.mem_univ (c, k))) $$ H
omit [FloatOps F] in
theorem board_mark (K : Dev nD × Fin 3 → ℕ) (c : Dev nD) (k : Fin 3) : board m K ⊢ reached EB (kcell c k) 0 := by
  unfold board
  iintro ⟨-, H⟩
  iapply (show (bigSep Finset.univ fun p : Dev nD × Fin 3 => (reached EB (cellAt p) 0 : sProp 𝕄)) ⊢ reached EB (kcell c k) 0
    from bigSep_elim (Finset.mem_univ (c, k))) $$ H

omit [FloatOps F] in
/-- With the whole board in sight, a device takes what it needs of it beside what is its own. -/
theorem deal_one (K : Dev nD × Fin 3 → ℕ) (c : Dev nD) : iprop(board m K ∗ (places c ∗ dues c ∗ idle c)) ⊢ dealt m c := by
  unfold dealt invs marks
  iintro ⟨#HB, Hp, Hd, Hi⟩
  isplitr
  · iexists K
    isplitr; · iapply (board_inv m K c 0); iexact HB
    isplitr; · iapply (board_inv m K c 1); iexact HB
    isplitr; · iapply (board_inv m K c 2); iexact HB
    isplitr; · iapply (board_inv m K (peer c) 0); iexact HB
    iapply (board_inv m K (peer c) 2); iexact HB
  isplitr
  · isplitr; · iapply (board_mark m K (peer c) 0); iexact HB
    isplitr; · iapply (board_mark m K c 1); iexact HB
    iapply (board_mark m K c 2); iexact HB
  isplitl [Hp]; · iexact Hp
  isplitl [Hd] <;> iassumption

omit [FloatOps F] in
/-- The tokens of a barrier and of a receive cell go to the peer, the token of a send cell stays. -/
theorem deal_toks : (bigSep Finset.univ fun c : Dev nD => each fun k => (dutyTok EB (kcell c k) 0 () : sProp 𝕄)) ⊢ bigSep Finset.univ fun c : Dev nD => dues c := by
  have h (k : Fin 3) : (bigSep Finset.univ fun c : Dev nD => (dutyTok EB (kcell c k) 0 () : sProp 𝕄)) = bigSep Finset.univ fun c : Dev nD => dutyTok EB (kcell (peer c) k) 0 () :=
    bigSep_univ_equiv swap _
  unfold dues
  rw [bigSep_congr (s := Finset.univ) fun (c : Dev nD) _ => each_eq (F := F) fun k => dutyTok EB (kcell c k) 0 (),
    bigSep_sep', bigSep_sep', bigSep_sep', bigSep_sep', h 0, h 2]

omit [FloatOps F] in
theorem deal : (bigSep Finset.univ fun c : Dev nD => setUp m c) ⊢ bigSep Finset.univ (dealt m) := by
  unfold setUp
  rw [bigSep_sep', bigSep_sep', bigSep_sep', bigSep_sep',
    ← bigSep_univ_prod (fun p : Dev nD × Fin 3 => iprop(∃ κ : ℕ, cellInv EB (Rd m) κ (cellAt p))),
    ← bigSep_univ_prod (fun p : Dev nD × Fin 3 => (reached EB (cellAt p) 0 : sProp 𝕄))]
  iintro ⟨HI, #HR, Hp, Ht, Hi⟩
  ihave HK := (BI.bigSep_exists_pi Finset.univ (fun (p : Dev nD × Fin 3) (κ : ℕ) => (cellInv EB (Rd m) κ (cellAt p) : sProp 𝕄))) $$ HI
  icases HK with ⟨%K, #HI⟩
  ihave Hd := (deal_toks (F := F)) $$ Ht
  have hall : iprop(board m K ∗ bigSep Finset.univ fun c : Dev nD => iprop(places c ∗ dues c ∗ idle c)) ⊢ bigSep Finset.univ (dealt m) :=
    (BIClass.sep_mono (BI.bigSep_of_persistent Finset.univ (board m K)) (Entails.refl _)).trans (by
      rw [← bigSep_sep']; exact bigSep_mono fun c _ => deal_one m K c)
  iapply hall
  rw [bigSep_sep', bigSep_sep']
  isplitr
  · unfold board; isplitr; · iexact HI
    iexact HR
  isplitl [Hp]; · iexact Hp
  isplitl [Hd] <;> iassumption

omit [FloatOps F] in
theorem deal_all :
    (bigSep Finset.univ fun c => iprop(Pipeline.ownSems0 (Ix := Unit) (Name := ℕ) (U := UU) (Lvl := ℕ) (Val := Elt F) (τ := τ) osem c ∗ unscopedSems0 c ∗ minted m c) : sProp 𝕄)
      ⊢ |={Set.univ}=> bigSep Finset.univ (dealt m) :=
  ((bigSep_mono fun c _ => set_up m c).trans (bigSep_fupd _ _)).trans (BI.fupd_mono (deal m))

/-! ## The credit at launch -/

theorem kcell_iff (a b : Dev nD) (j k : Fin 3) : kcell a j = kcell b k ↔ a = b ∧ j = k :=
  ⟨fun h => by have := cellAt_inj (a₁ := (a, j)) (a₂ := (b, k)) h; exact ⟨congrArg Prod.fst this, congrArg Prod.snd this⟩, fun h => by rw [h.1, h.2]⟩

/-- What device `d` owes device `c`'s barrier cell and receive cell: their units if it is the peer. -/
theorem owes_cell (d c : Dev nD) (k : Fin 3) (hk : k ≠ 1) : O₀ d (kcell c k) () = if d = peer c then units k else 0 := by
  have hp : c = peer d ↔ d = peer c := ⟨fun h => by rw [h, peer_peer], fun h => by rw [h, peer_peer]⟩
  unfold O₀
  rw [Pi.add_apply, Finsupp.add_apply, tallyAt_apply, tallyAt_apply]
  simp only [kcell_iff, and_true]
  by_cases h : d = peer c
  · have h' := hp.mpr h
    fin_cases k
    · simp [units, h', peer_peer]
    · exact absurd rfl hk
    · simp [units, h', peer_peer]
  · have h' : ¬ c = peer d := fun e => h (hp.mp e)
    simp [h, h']

theorem launch_cell (c : Dev nD) (k : Fin 3) (hk : k ≠ 1) :
    tallyOn (kcell c k) (launchCredit (Pipeline.owing O₀) 0 (kcell c k)) = (tallyAt (kcell c k) () (units k) : CellTallies nD τ sig Unit) := by
  unfold tallyAt; refine congrArg _ (Finsupp.ext fun u => ?_); cases u
  rw [Pipeline.launchCredit_owing, Finsupp.single_eq_same, Finset.sum_congr rfl fun d _ => owes_cell d c k hk,
    Finset.sum_ite_eq' Finset.univ (peer c) fun _ => units k, if_pos (Finset.mem_univ _)]

omit [FloatOps F] in
theorem credits (c : Dev nD) :
    (Pipeline.launchCred O₀ c : sProp 𝕄) ⊢ iprop(cred (tallyAt (kcell c 0) () 1) ∗ cred (tallyAt (kcell c 2) () N)) := by
  unfold Pipeline.launchCred
  rw [bigSep_univ_at _ (ksem 0), launch_cell c 0 (by decide)]
  refine sep_mono_right ?_
  rw [show (tallyAt (kcell c 2) () N : CellTallies nD τ sig Unit) = _ from (launch_cell c 2 (by decide)).symm]
  exact bigSep_elim (Finset.mem_erase.mpr ⟨by decide, Finset.mem_univ _⟩)

/-! ## Entering and leaving the kernel -/

omit [FloatOps F] in
/-- The unscoped buffers that are no window's array: `x` alone. -/
theorem rest_eq (c : Dev nD) :
    (Pipeline.unscopedRestP (Ix := Unit) (Name := ℕ) (U := UU) (Lvl := ℕ) Pipeline.Prefetch.none cfg0.spec c (fun b => m ((c : Thread nD τ).loc b)) : sProp 𝕄)
      = holds c main_arg0 (xAt m c) := by
  rw [Pipeline.unscopedRestP_eq_of_list cfg0.spec c Pipeline.Prefetch.none _ [main_arg0] (by decide) (by decide)]; rfl

omit [FloatOps F] in
theorem enter (c : Dev nD) :
    iprop(Pipeline.unscopedRestP Pipeline.Prefetch.none cfg0.spec c (fun b => m ((c : Thread nD τ).loc b)) ∗ levAts L lv
        ∗ Pipeline.launchCred O₀ c ∗ prngReg c (ρ c) ∗ dealt m c)
      ⊢ |={Set.univ}=> iprop(start m c ∗ emp) := by
  rw [rest_eq]
  unfold start
  iintro ⟨Hx, Hlev, Hcr, -, HG⟩
  ihave Hc := (credits (F := F) c) $$ Hcr
  icases Hc with ⟨H0, H2⟩
  imodintro
  isplitl
  · isplitl [HG]; · iexact HG
    isplitl [H0]; · iexact H0
    isplitl [H2]; · iexact H2
    isplitl [Hlev] <;> iassumption
  · iempintro

theorem enter_point (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hb⟩
  isplitl [Hs]; · iexact Hs
  iexact Hb

theorem leave_point (c : Dev nD) :
    (dats m 0 c).Φ (Fin.last cfg0.N) ⊢ iprop((holds c main_arg0 (xAt m c) ∗ unscopedSems0 c) ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ idle
  iintro ⟨Hx, ⟨Hs, Hk, Hr⟩, ⟨H0, H1, H2⟩, HO, HK⟩
  isplitl [Hx H0]
  · isplitl [Hx] <;> iassumption
  isplitl [H1 H2 HO HK]
  · isplitl [HO]; · iexact HO
    isplitl [HK]; · iexact HK
    isplitl [H1] <;> iassumption
  isplitl [Hs]; · iexists _; iexact Hs
  isplitl [Hk]; · iexists _; iexact Hk
  iexists _; iexact Hr

theorem waits (c : Dev nD) : (levAts L lv : sProp 𝕄) ⊢ Pipeline.cellsWaits cfgs (dats m) () 0 c :=
  Pipeline.cellsWaits_intro cfgs (dats m) () 0 c fun w s t => by
    have hlow : lv ((c : Thread nD τ), .dma ((win0 w).sem s)) () = 0 :=
      lv_low c _ (by revert w s; decide) (by revert w s; decide)
    rcases t with ⟨_ | _, ht⟩
    · exact mayWait_start c _ hlow
    · show _ ⊢ MayWait _ _ _ 0
      rw [MayWait_zero]; iintro -; iempintro

/-! ## The run -/

/-- What holds of the memory after the run: every device's result array is the pipeline's, its block of `x` as it was. -/
def Final (r : PUnit × MemSt nD τ sig (Elt F)) : Prop :=
  ∀ c : Dev nD, (∀ w : Fin cfg0.W, r.2.mem ((cfg0.win w).arr.view.loc (c : Thread nD τ)) = (dats m 0 c).arrAt w cfg0.N)
    ∧ r.2.mem ((c : Thread nD τ).loc main_arg0) = m ((c : Thread nD τ).loc main_arg0)

set_option maxRecDepth 8000 in
/-- From any memory with every counter at zero, for any float values, every fair execution of the program on the eight
    devices ends, with the memory as `Final` says and every counter at zero. -/
theorem run_main : θ_run defs (onTc (τ := τ) (main (F := F))) ⟨m, fun _ => 0, ρ⟩ (fun r => Final m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => body_obligation m c) (hne := fun w => by fin_cases w; exact Nat.succ_pos _) (harr := arr_whole0) (hstage := stage_whole0)
    (hshare := share_eq m) (hdistinct := winFacts0.arr_inj)
    (O₀ := O₀) (howed₀ := fun _ => rfl) (howedN := fun _ => rfl)
    (L := L) (lv := lv) (hL := L_of_ne) (hwaits := waits m)
    (G := minted m) (G' := dealt m) (u₀ := u₀)
    (hu₀ := by
      unfold u₀
      iintro Hu
      ihave H := (ownU_pair _ _) $$ Hu
      icases H with ⟨HP, HX⟩
      ihave H := (own_pair_emb embR (initOf allCells allToks) (1 : Counters)) $$ HX
      icases H with ⟨HX, -⟩
      ihave HX := (show (BI.own (((Emb.inl : Emb UB (UB × Counters)).trans embR) (initOf allCells allToks)) : sProp 𝕄)
        ⊢ BI.own (EB (initOf allCells allToks)) from Entails.of_eq rfl) $$ HX
      imod (mint m) $$ HX with HG
      imodintro
      isplitl [HP] <;> iassumption)
    (hglob := deal_all m)
    (hA := fun _ _ => rfl) (hpf := fun _ k => k.elim0)
    (X := start m) (Y := fun c => iprop(holds c main_arg0 (xAt m c) ∗ unscopedSems0 c)) (Z := fun _ => iprop(emp))
    (hX := enter m ρ) (hin := enter_point m) (hout := leave_point m)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      iintro ⟨⟨Hx, Hu⟩, -, HSI⟩
      icombine HSI Hx gives %hx
      imod (Pipeline.unscopedSems0_read (X := unscopedSems0 c) (c := c) fupd_intro s') $$ [Hu HSI] with ⟨%hs, HSI⟩
      · isplitl [Hu] <;> iassumption
      imodintro
      isplitr
      · ipureintro
        exact ⟨funext fun i => hx i (Finset.mem_univ i), hs⟩
      iexact HSI)
    (hQ := fun _ h hs => ⟨fun c => ⟨(h c).1, (h c).2.2.1⟩, sem_eq_zero hs fun c => (h c).2.2.2⟩)

end Cert.Swap

end
-- ==== Proof.Value.lean ====
/-
# What the kernel computes, in exact arithmetic

The columns of the result that device `c` holds are those its block of `x` keeps; the peer's block, cut at the same
columns, is what the peer sends. The two blocks are the two entries of the leading axis of the whole `x`, so their
sum is the reference's sum over that axis, cut at the columns of `c`.
-/
module

public import proofs.«01_k».proof.Proof.Run
public import proofs.«01_k».proof.Proof.Gen.ReferenceIdeal
public import Idealize.ShloMosaic.Lib.Layout
public import Idealize.ShloMosaic.Lib.ValueIdx
public import Idealize.ShloMosaic.Lib.ValueLayout
public import Idealize.ShloMosaic.Lib.Pointwise.Reduce
public import Idealize.ShloMosaic.Lib.Pipeline.ValueKit.Geometry

@[expose] public section

noncomputable section

namespace Cert.Swap

open Cert.KernelIdeal Cert.KernelIdeal.Gen

open Idealize.ShloMosaic hiding ix2 ix3 eq_ix2
open Idealize.ShloMosaic.TcCoe
open Idealize.SL.Sem
open Idealize.ShloMosaic.ValueIdx (ix2 ix3 eq_ix2)

variable {F : FTy → Type} [FloatOps F]
variable (m : (ℓ : Loc nD τ sig) → Buf (Elt F) ℓ)

/-! ## The halves of a block, by element -/

/-- The first coordinate of device `c` in the mesh, as an index into the leading axis of the whole `x`. -/
def half (c : Dev nD) : Fin 2 := ⟨c.val / 4, by have := c.isLt; simp only [nD] at this; omega⟩

/-- Column `j` of half `h` of the columns, counted in the whole array. -/
def column (h : Fin 2) (j : Fin 256) : Fin 512 := ⟨256 * h.val + j.val, by omega⟩

/-- The peer has the other first coordinate. -/
theorem half_peer (c : Dev nD) : (half (peer c)).val = 1 - (half c).val := by revert c; decide

/-- The half that device `c` keeps is its block at the columns of its own first coordinate. -/
theorem kept_apply (c : Dev nD) (a b : Fin 256) :
    kept m c (ix2 a b) = xAt m c (ix3 (0 : Fin 1) a (column (half c) b)) := by
  unfold kept
  show xAt m c ((Rect.unit (s := S1x256x512) (k0_off2 c) S1x256x256.size (k0_off2_inb c)).emb
    (Shape.reshapeEquiv squeezes_S1x256x256_S256x256.numel_eq (ix2 a b))) = _
  rw [ValueIdx.reshapeEquiv_ix2_1ab]
  refine congrArg (xAt m c) (funext fun k => Fin.ext ?_)
  have e := congrFun (k0_off2_eq c) k
  rw [Rect.emb_apply]
  refine (congrArg (· + 1 * _) e).trans ?_
  fin_cases k
  · rfl
  · show 0 + 1 * a.val = a.val; omega
  · show 256 * (c.val / 4) + 1 * b.val = 256 * (c.val / 4) + b.val; omega

/-- The half that the peer sends to device `c` is the peer's block at the columns of the first coordinate of `c`. -/
theorem outgoing_apply (c : Dev nD) (a b : Fin 256) :
    outgoing m (peer c) (ix2 a b) = xAt m (peer c) (ix3 (0 : Fin 1) a (column (half c) b)) := by
  unfold outgoing
  show xAt m (peer c) ((Rect.unit (s := S1x256x512) (k0_off1 (peer c)) S1x256x256.size (k0_off1_inb (peer c))).emb
    (Shape.reshapeEquiv squeezes_S1x256x256_S256x256.numel_eq (ix2 a b))) = _
  rw [ValueIdx.reshapeEquiv_ix2_1ab]
  refine congrArg (xAt m (peer c)) (funext fun k => Fin.ext ?_)
  have e := congrFun (k0_off1_eq (peer c)) k
  rw [Rect.emb_apply]
  refine (congrArg (· + 1 * _) e).trans ?_
  have h : (peer c).val / 4 = 1 - (half c).val := half_peer c
  have h2 := (half c).isLt
  fin_cases k
  · rfl
  · show 0 + 1 * a.val = a.val; omega
  · show 256 - 256 * ((peer c).val / 4) + 1 * b.val = 256 * (half c).val + b.val; omega

/-! ## The result array -/

/-- After the run the result array of device `c` holds what the body left in the staging buffer. -/
theorem final_out (c : Dev nD) : (dats m 0 c).arrAt 0 cfg0.N = outAt m c :=
  (dats m 0 c).arrAt_eq_of_after_last 0 t₀ (by decide +kernel) (outAt m c) (fun _ => rfl)

/-- Every device ends with the sum of what it kept and what it was sent, and with its block of `x` as it was. -/
theorem run_out (ρ : Dev nD → PrngReg) :
    θ_run defs (onTc (τ := τ) (main (F := F))) ⟨m, fun _ => 0, ρ⟩ (fun r => ∀ c : Dev nD,
      r.2.mem ((c : Thread nD τ).loc main_v1) = outAt m c
        ∧ r.2.mem ((c : Thread nD τ).loc main_arg0) = m ((c : Thread nD τ).loc main_arg0)) :=
  (θ_run defs _ _).mono (fun _ h c => ⟨((h.1 c).1 0).trans (final_out m c), (h.1 c).2⟩) (run_main m ρ)

/-! ## The sum -/

/-- Device `c` starts from block `half c` of the whole array, along the leading axis. -/
def Cut (X : (⟨3, ![2, 256, 512]⟩ : Shape).Idx → Elt Ideal .f32) (m : (ℓ : Loc nD τ sig) → Buf (Elt Ideal) ℓ) : Prop :=
  ∀ c : Dev nD, xAt m c = Layout.blockN ⟨3, ![1, 256, 512]⟩ ⟨3, ![2, 256, 512]⟩ (Layout.meshBlock [2, 2, 2] ![[0], [], []] c) X

theorem lead_block (c : Dev nD) : ((Layout.meshBlock [2, 2, 2] ![[0], [], []] c) (0 : Fin 3) : ℕ) = c.val / 4 := by
  revert c; decide
theorem column_block (c : Dev nD) : ((Layout.meshBlock [2, 2, 2] ![[], [0]] c) (1 : Fin 2) : ℕ) = c.val / 4 := by
  revert c; decide

/-- An element of the block of device `c`, in the whole array. -/
theorem block_apply {X} {m : (ℓ : Loc nD τ sig) → Buf (Elt Ideal) ℓ} (hX : Cut X m) (c : Dev nD) (a : Fin 256) (b : Fin 512) :
    xAt m c (ix3 (0 : Fin 1) a b) = X (ix3 (half c) a b) := by
  rw [hX c, Layout.blockN_apply]
  refine congrArg X (funext fun k => Fin.ext ?_)
  rw [Layout.TilesN.idx_val]
  fin_cases k
  · show ((Layout.meshBlock [2, 2, 2] ![[0], [], []] c) (0 : Fin 3) : ℕ) * 1 + 0 = c.val / 4
    rw [lead_block]; omega
  · show 0 * 256 + a.val = a.val; omega
  · show 0 * 512 + b.val = b.val; omega

/-- The two blocks of one exchange are the two entries of the leading axis. -/
theorem pair_sum {X : (⟨3, ![2, 256, 512]⟩ : Shape).Idx → EReal} (c : Dev nD) (a : Fin 256) (b : Fin 512) :
    X (ix3 (half c) a b) + X (ix3 (half (peer c)) a b) = ∑ k : Fin 2, X (ix3 k a b) := by
  have hp := half_peer c
  rw [Fin.sum_univ_two]
  have h := (half c).isLt
  rcases (by omega : (half c).val = 0 ∨ (half c).val = 1) with e | e
  · rw [show half c = 0 from Fin.ext e, show half (peer c) = 1 from Fin.ext (by rw [hp, e]; rfl)]
  · rw [show half c = 1 from Fin.ext e, show half (peer c) = 0 from Fin.ext (by rw [hp, e]; rfl)]
    exact add_comm _ _

/-- The reference's sum over the leading axis. -/
def total (X : (⟨3, ![2, 256, 512]⟩ : Shape).Idx → Elt Ideal .f32) : (⟨2, ![256, 512]⟩ : Shape).Idx → Elt Ideal .f32 :=
  Host.reduceAdd (F := Ideal) (φ := .f32) X (constant (F := Ideal) Cert.ReferenceIdeal.S_ .f32 0x00000000#32)
    Cert.ReferenceIdeal.Gen.reducesTo_S2x256x512_S256x512_d0 Cert.ReferenceIdeal.Gen.h_S_

/-- An element of the reference's sum. -/
theorem total_apply (X : (⟨3, ![2, 256, 512]⟩ : Shape).Idx → Elt Ideal .f32) (a : Fin 256) (b : Fin 512) :
    total X (ix2 a b) = ∑ k : Fin 2, (X (ix3 k a b) : EReal) := by
  unfold total
  rw [Host.reduceAdd_apply, Ideal.hostReduceAdd_def, Ideal.hostReduceAdd_r3_a0]
  show Ideal.ofBits .f32 0x00000000#32 + _ = _
  rw [Ideal.ofBits_zero_f32, zero_add]
  rfl

/-- The result of device `c` is its block of columns of the reference's sum. -/
theorem value {X} {m : (ℓ : Loc nD τ sig) → Buf (Elt Ideal) ℓ} (hX : Cut X m) (c : Dev nD) :
    outAt m c = Layout.blockN ⟨2, ![256, 256]⟩ ⟨2, ![256, 512]⟩ (Layout.meshBlock [2, 2, 2] ![[], [0]] c) (total X) := by
  funext j
  obtain ⟨a, b, rfl⟩ : ∃ a b : Fin 256, j = ix2 a b := ⟨j 0, j 1, eq_ix2 j⟩
  have hR : (Layout.blockN ⟨2, ![256, 256]⟩ ⟨2, ![256, 512]⟩ (Layout.meshBlock [2, 2, 2] ![[], [0]] c) (total X)) (ix2 a b)
      = total X (ix2 a (column (half c) b)) := by
    rw [Layout.blockN_apply]
    refine congrArg (total X) (funext fun k => Fin.ext ?_)
    rw [Layout.TilesN.idx_val]
    fin_cases k
    · show 0 * 256 + a.val = a.val; omega
    · show ((Layout.meshBlock [2, 2, 2] ![[], [0]] c) (1 : Fin 2) : ℕ) * 256 + b.val = 256 * (c.val / 4) + b.val
      rw [column_block]; omega
  rw [hR, total_apply, ← pair_sum c]
  show kept m c (ix2 a b) + outgoing m (peer c) (ix2 a b) = _
  rw [kept_apply, outgoing_apply, block_apply hX, block_apply hX]

end Cert.Swap

end
-- ==== Proof.lean ====
/-
  The proof of `Cert.Claim` (Defs.lean): the frame of the kernel, of the kernel in exact arithmetic and of the reference,
  that the two kernels are one text, and that the kernel's result is the reference's. The parts are in Proof/:
  Protocol.lean, the exchange between a device and its peer as a schedule of semaphore credits; Body.lean, the kernel's
  body under that schedule; Run.lean, the run of all eight devices, for any float values; Value.lean, what it computes.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- The kernel's body is the same before and after idealization, at its only label. -/
theorem body_eq : Cert.Kernel.defs₀ (F := Bits) = Cert.KernelIdeal.defs₀ (F := Bits) := by
  unfold Cert.Kernel.defs₀ Cert.KernelIdeal.defs₀
  congr 1
  funext l x
  match l, x with
  | 0, (_, _) => rfl

/-- So is the program's table of bodies. -/
theorem defs_eq : Cert.Kernel.defs (F := Bits) = Cert.KernelIdeal.defs (F := Bits) :=
  congrArg (Pipeline.defs (Cert.KernelIdeal.pcfgs (F := Bits))) body_eq

/-- Every fair run of the kernel, on words, ends with `x` as it was and every counter at zero: the run is written once for
    any float values, and the kernel's text is that of its idealization. -/
theorem frame_kernel : Cert.quiescent_Kernel := fun m ρ _ => by
  rw [defs_eq]
  exact (θ_run Cert.KernelIdeal.defs _ _).mono
    (fun r (h : Cert.Swap.Final m r ∧ r.2.sem = fun _ => 0) => And.intro (fun c => (h.1 c).2) h.2)
    (Cert.Swap.run_main (F := Bits) m ρ)

/-- The same of the kernel in exact arithmetic. -/
theorem frame_kernelIdeal : Cert.quiescent_KernelIdeal := fun m ρ _ =>
  (θ_run Cert.KernelIdeal.defs _ _).mono (fun _ h => ⟨fun c => (h.1 c).2, h.2⟩) (Cert.Swap.run_main (F := Ideal) m ρ)

/-- Every run of the reference ends with its argument as it was; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In exact arithmetic every device ends with its block of columns of the reference's sum. -/
theorem algebraic : Cert.algebraic_KernelIdeal_ReferenceIdeal := fun m ρ m' ρ' _ hX =>
  ⟨Cert.Swap.total (m' ((0 : Dev Cert.ReferenceIdeal.nD).tc.loc Cert.ReferenceIdeal.main_arg0)),
    (θ_run Cert.KernelIdeal.defs _ _).mono (fun _ h c => ⟨(h c).1.trans (Cert.Swap.value hX c), (h c).2⟩)
      (Cert.Swap.run_out (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_kernelIdeal, frame_reference, trivial, algebraic⟩

end Cert.Proof

end
